-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_inf [hPre_no_plus_inf : Cert.Pre_no_plus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_inf [hPre_no_plus_inf : Cert.Pre_no_plus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_no_plus_inf [hKernelIdeal : Cert.KernelIdeal.Facts] [hPre_no_plus_inf : Cert.Pre_no_plus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_no_plus_inf [hReferenceIdeal : Cert.ReferenceIdeal.Facts] [hPre_no_plus_inf : Cert.Pre_no_plus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_no_plus_inf [hKernelIdeal : Cert.KernelIdeal.Facts] [hReferenceIdeal : Cert.ReferenceIdeal.Facts] [hPre_no_plus_inf : Cert.Pre_no_plus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_no_plus_inf : Cert.Pre_no_plus_inf.Facts),
    quiescent_Kernel (hKernel := hKernel)
    ∧ quiescent_KernelIdeal (hKernelIdeal := hKernelIdeal)
    ∧ quiescent_KernelIdeal_pre_no_plus_inf (hKernelIdeal := hKernelIdeal) (hPre_no_plus_inf := hPre_no_plus_inf)
    ∧ quiescent_ReferenceIdeal (hReferenceIdeal := hReferenceIdeal)
    ∧ quiescent_ReferenceIdeal_pre_no_plus_inf (hReferenceIdeal := hReferenceIdeal) (hPre_no_plus_inf := hPre_no_plus_inf)
    ∧ preserves_Kernel_KernelIdeal
    ∧ algebraic_KernelIdeal_ReferenceIdeal_pre_no_plus_inf (hKernelIdeal := hKernelIdeal) (hReferenceIdeal := hReferenceIdeal) (hPre_no_plus_inf := hPre_no_plus_inf)
-- ==== Pre_no_plus_inf.lean ====
abbrev S1024x16x1280 : Shape := ⟨3, ![1024, 16, 1280]⟩
abbrev S_ : Shape := ⟨0, ![]⟩

class Facts : Prop where
  bcast_S_S1024x16x1280 : S_.BroadcastsInDim S1024x16x1280 (![] : Fin 0 → Fin S1024x16x1280.rank)
  reducesTo_S1024x16x1280_S_d0_1_2 : S1024x16x1280.ReducesTo [0, 1, 2] S_
  h_S_ : 0 < S_.numel

variable [Facts]

def fn {F : FTy → Type} [FloatOps F] (main_arg0 : FVec F S1024x16x1280 .f32) : IVec S_ 1 :=
  let main_cst : FVec F S_ .f32 := constant S_ .f32 0x7F800000#32
  let main_v0 : FVec F S1024x16x1280 .f32 := broadcastInDim S1024x16x1280 ![] bcast_S_S1024x16x1280 main_cst
  let main_v1 : IVec S1024x16x1280 1 := cmpf .olt main_arg0 main_v0
  let main_c : IVec S_ 1 := constantI S_ 1 1#1
  let main_v2 : IVec S_ 1 := (fun x v => Host.reduce IntOp.andi x v reducesTo_S1024x16x1280_S_d0_1_2 h_S_) main_v1 main_c
  main_v2
-- ==== Kernel.lean ====
abbrev S1024x16x1280 : Shape := ⟨3, ![1024, 16, 1280]⟩
abbrev S1024x16x256x5 : Shape := ⟨4, ![1024, 16, 256, 5]⟩
abbrev S1024x5x16x256 : Shape := ⟨4, ![1024, 5, 16, 256]⟩
abbrev S1025x16x256 : Shape := ⟨3, ![1025, 16, 256]⟩
abbrev S1x5x16x256 : Shape := ⟨4, ![1, 5, 16, 256]⟩
abbrev S1x16x256 : Shape := ⟨3, ![1, 16, 256]⟩
abbrev S16x256 : Shape := ⟨2, ![16, 256]⟩
abbrev S1x1x16x256 : Shape := ⟨4, ![1, 1, 16, 256]⟩
abbrev S16x64 : Shape := ⟨2, ![16, 64]⟩
abbrev S16x64x1 : Shape := ⟨3, ![16, 64, 1]⟩
abbrev S16x64x4 : Shape := ⟨3, ![16, 64, 4]⟩

abbrev nBuf : Space → Nat
  | .hbm => 4
  | .vmem => 5
  | .smem => 0
  | _ => 0

abbrev bufTy : (tb : Table) → Fin (tcTables nBuf tb) → BufTy
  | .hbm, ⟨0, _⟩ => ⟨S1024x16x1280, .f32⟩
  | .hbm, ⟨1, _⟩ => ⟨S1024x16x256x5, .f32⟩
  | .hbm, ⟨2, _⟩ => ⟨S1024x5x16x256, .f32⟩
  | .hbm, ⟨3, _⟩ => ⟨S1025x16x256, .f32⟩
  | .local _ .vmem, ⟨0, _⟩ => ⟨S1x5x16x256, .f32⟩
  | .local _ .vmem, ⟨1, _⟩ => ⟨S1x5x16x256, .f32⟩
  | .local _ .vmem, ⟨2, _⟩ => ⟨S1x16x256, .f32⟩
  | .local _ .vmem, ⟨3, _⟩ => ⟨S1x16x256, .f32⟩
  | .local _ .vmem, ⟨4, _⟩ => ⟨S16x256, .f32⟩
  | _, _ => ⟨S1024x16x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1025], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x16x1280 : Shape := ⟨3, ![1024, 16, 1280]⟩
abbrev S256x5 : Shape := ⟨2, ![256, 5]⟩
abbrev S1024x16x256x5 : Shape := ⟨4, ![1024, 16, 256, 5]⟩
abbrev S_ : Shape := ⟨0, ![]⟩
abbrev S16x256 : Shape := ⟨2, ![16, 256]⟩
abbrev S1024x16x256 : Shape := ⟨3, ![1024, 16, 256]⟩
abbrev S1x16x256x5 : Shape := ⟨4, ![1, 16, 256, 5]⟩
abbrev S16x256x5 : Shape := ⟨3, ![16, 256, 5]⟩
abbrev S256x5x1 : Shape := ⟨3, ![256, 5, 1]⟩
abbrev S1 : Shape := ⟨1, ![1]⟩
abbrev S1x1x1 : Shape := ⟨3, ![1, 1, 1]⟩
abbrev S16x256x1 : Shape := ⟨3, ![16, 256, 1]⟩
abbrev S1x16x256 : Shape := ⟨3, ![1, 16, 256]⟩
abbrev S1025x16x256 : Shape := ⟨3, ![1025, 16, 256]⟩

abbrev nBuf : Space → Nat
  | .hbm => 70
  | .vmem => 0
  | .smem => 0
  | _ => 0

abbrev bufTy : (tb : Table) → Fin (tcTables nBuf tb) → BufTy
  | .hbm, ⟨0, _⟩ => ⟨S1024x16x1280, .f32⟩
  | .hbm, ⟨1, _⟩ => ⟨S256x5, .i32⟩
  | .hbm, ⟨2, _⟩ => ⟨S1024x16x256x5, .f32⟩
  | .hbm, ⟨3, _⟩ => ⟨S_, .f32⟩
  | .hbm, ⟨4, _⟩ => ⟨S16x256, .f32⟩
  | .hbm, ⟨5, _⟩ => ⟨S_, .f32⟩
  | .hbm, ⟨6, _⟩ => ⟨S1024x16x256, .f32⟩
  | .hbm, ⟨7, _⟩ => ⟨S_, .i32⟩
  | .hbm, ⟨8, _⟩ => ⟨S1024x16x256x5, .f32⟩
  | .hbm, ⟨9, _⟩ => ⟨S256x5, .i32⟩
  | .hbm, ⟨10, _⟩ => ⟨S_, .i32⟩
  | .hbm, ⟨11, _⟩ => ⟨S16x256, .f32⟩
  | .hbm, ⟨12, _⟩ => ⟨S1024x16x256, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1x16x256x5, .f32⟩
  | .hbm, ⟨19, _⟩ => ⟨S16x256x5, .f32⟩
  | .hbm, ⟨20, _⟩ => ⟨S_, .i32⟩
  | .hbm, ⟨21, _⟩ => ⟨S256x5, .i32⟩
  | .hbm, ⟨22, _⟩ => ⟨S256x5, .i1⟩
  | .hbm, ⟨23, _⟩ => ⟨S_, .i32⟩
  | .hbm, ⟨24, _⟩ => ⟨S256x5, .i32⟩
  | .hbm, ⟨25, _⟩ => ⟨S256x5, .i32⟩
  | .hbm, ⟨26, _⟩ => ⟨S256x5, .i32⟩
  | .hbm, ⟨27, _⟩ => ⟨S256x5x1, .i32⟩
  | .hbm, ⟨28, _⟩ => ⟨S1, .i32⟩
  | .hbm, ⟨29, _⟩ => ⟨S_, .i32⟩
  | .hbm, ⟨30, _⟩ => ⟨S256x5x1, .i32⟩
  | .hbm, ⟨31, _⟩ => ⟨S256x5x1, .i1⟩
  | .hbm, ⟨32, _⟩ => ⟨S1x1x1, .i32⟩
  | .hbm, ⟨33, _⟩ => ⟨S256x5x1, .i32⟩
  | .hbm, ⟨34, _⟩ => ⟨S256x5x1, .i1⟩
  | .hbm, ⟨35, _⟩ => ⟨S256x5x1, .i1⟩
  | .hbm, ⟨36, _⟩ => ⟨S_, .i1⟩
  | .hbm, ⟨37, _⟩ => ⟨S256x5, .i1⟩
  | .hbm, ⟨38, _⟩ => ⟨S16x256x5, .f32⟩
  | .hbm, ⟨39, _⟩ => ⟨S16x256x5, .i1⟩
  | .hbm, ⟨40, _⟩ => ⟨S_, .f32⟩
  | .hbm, ⟨41, _⟩ => ⟨S16x256x5, .f32⟩
  | .hbm, ⟨42, _⟩ => ⟨S16x256x5, .f32⟩
  | .hbm, ⟨43, _⟩ => ⟨S16x256x5, .f32⟩
  | .hbm, ⟨44, _⟩ => ⟨S_, .f32⟩
  | .hbm, ⟨45, _⟩ => ⟨S16x256, .f32⟩
  | .hbm, ⟨46, _⟩ => ⟨S16x256, .f32⟩
  | .hbm, ⟨47, _⟩ => ⟨S_, .f32⟩
  | .hbm, ⟨48, _⟩ => ⟨S16x256, .f32⟩
  | .hbm, ⟨49, _⟩ => ⟨S16x256, .i1⟩
  | .hbm, ⟨50, _⟩ => ⟨S_, .f32⟩
  | .hbm, ⟨51, _⟩ => ⟨S_, .f32⟩
  | .hbm, ⟨52, _⟩ => ⟨S16x256, .f32⟩
  | .hbm, ⟨53, _⟩ => ⟨S16x256, .f32⟩
  | .hbm, ⟨54, _⟩ => ⟨S16x256x1, .f32⟩
  | .hbm, ⟨55, _⟩ => ⟨S16x256x5, .f32⟩
  | .hbm, ⟨56, _⟩ => ⟨S16x256x5, .f32⟩
  | .hbm, ⟨57, _⟩ => ⟨S16x256x5, .f32⟩
  | .hbm, ⟨58, _⟩ => ⟨S_, .f32⟩
  | .hbm, ⟨59, _⟩ => ⟨S16x256, .f32⟩
  | .hbm, ⟨60, _⟩ => ⟨S16x256, .f32⟩
  | .hbm, ⟨61, _⟩ => ⟨S16x256, .f32⟩
  | .hbm, ⟨62, _⟩ => ⟨S1x16x256, .f32⟩
  | .hbm, ⟨63, _⟩ => ⟨S_, .i32⟩
  | .hbm, ⟨64, _⟩ => ⟨S_, .i32⟩
  | .hbm, ⟨65, _⟩ => ⟨S1024x16x256, .f32⟩
  | .hbm, ⟨66, _⟩ => ⟨S_, .i32⟩
  | .hbm, ⟨67, _⟩ => ⟨S_, .i32⟩
  | .hbm, ⟨68, _⟩ => ⟨S1x16x256, .f32⟩
  | .hbm, ⟨69, _⟩ => ⟨S1025x16x256, .f32⟩
  | _, _ => ⟨S1024x16x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_6 : Ref sig .tc := ⟨.hbm, 13, rfl⟩
abbrev main_while0c_v6 : Ref sig .tc := ⟨.hbm, 14, rfl⟩
abbrev main_while0b_call0_c : Ref sig .tc := ⟨.hbm, 15, rfl⟩
abbrev main_while0b_call0_c_0 : Ref sig .tc := ⟨.hbm, 16, rfl⟩
abbrev main_while0b_call0_c_1 : Ref sig .tc := ⟨.hbm, 17, rfl⟩
abbrev main_while0b_call0_v0 : Ref sig .tc := ⟨.hbm, 18, rfl⟩
abbrev main_while0b_v6 : Ref sig .tc := ⟨.hbm, 19, rfl⟩
abbrev main_while0b_call1_c : Ref sig .tc := ⟨.hbm, 20, rfl⟩
abbrev main_while0b_call1_v0 : Ref sig .tc := ⟨.hbm, 21, rfl⟩
abbrev main_while0b_call1_v1 : Ref sig .tc := ⟨.hbm, 22, rfl⟩
abbrev main_while0b_call1_c_0 : Ref sig .tc := ⟨.hbm, 23, rfl⟩
abbrev main_while0b_call1_v2 : Ref sig .tc := ⟨.hbm, 24, rfl⟩
abbrev main_while0b_call1_v3 : Ref sig .tc := ⟨.hbm, 25, rfl⟩
abbrev main_while0b_call1_v4 : Ref sig .tc := ⟨.hbm, 26, rfl⟩
abbrev main_while0b_call1_v5 : Ref sig .tc := ⟨.hbm, 27, rfl⟩
abbrev main_while0b_call1_c_1 : Ref sig .tc := ⟨.hbm, 28, rfl⟩
abbrev main_while0b_call1_c_2 : Ref sig .tc := ⟨.hbm, 29, rfl⟩
abbrev main_while0b_call1_v6 : Ref sig .tc := ⟨.hbm, 30, rfl⟩
abbrev main_while0b_call1_v7 : Ref sig .tc := ⟨.hbm, 31, rfl⟩
abbrev main_while0b_call1_v8 : Ref sig .tc := ⟨.hbm, 32, rfl⟩
abbrev main_while0b_call1_v9 : Ref sig .tc := ⟨.hbm, 33, rfl⟩
abbrev main_while0b_call1_v10 : Ref sig .tc := ⟨.hbm, 34, rfl⟩
abbrev main_while0b_call1_v11 : Ref sig .tc := ⟨.hbm, 35, rfl⟩
abbrev main_while0b_call1_c_3 : Ref sig .tc := ⟨.hbm, 36, rfl⟩
abbrev main_while0b_call1_v12 : Ref sig .tc := ⟨.hbm, 37, rfl⟩
abbrev main_while0b_call1_v13 : Ref sig .tc := ⟨.hbm, 38, rfl⟩
abbrev main_while0b_call1_v14 : Ref sig .tc := ⟨.hbm, 39, rfl⟩
abbrev main_while0b_call1_cst : Ref sig .tc := ⟨.hbm, 40, rfl⟩
abbrev main_while0b_call1_v15 : Ref sig .tc := ⟨.hbm, 41, rfl⟩
abbrev main_while0b_v7 : Ref sig .tc := ⟨.hbm, 42, rfl⟩
abbrev main_while0b_v8 : Ref sig .tc := ⟨.hbm, 43, rfl⟩
abbrev main_while0b_cst_6 : Ref sig .tc := ⟨.hbm, 44, rfl⟩
abbrev main_while0b_v9 : Ref sig .tc := ⟨.hbm, 45, rfl⟩
abbrev main_while0b_v10 : Ref sig .tc := ⟨.hbm, 46, rfl⟩
abbrev main_while0b_cst_7 : Ref sig .tc := ⟨.hbm, 47, rfl⟩
abbrev main_while0b_v11 : Ref sig .tc := ⟨.hbm, 48, rfl⟩
abbrev main_while0b_v12 : Ref sig .tc := ⟨.hbm, 49, rfl⟩
abbrev main_while0b_cst_8 : Ref sig .tc := ⟨.hbm, 50, rfl⟩
abbrev main_while0b_call2_v0 : Ref sig .tc := ⟨.hbm, 51, rfl⟩
abbrev main_while0b_call2_v1 : Ref sig .tc := ⟨.hbm, 52, rfl⟩
abbrev main_while0b_v13 : Ref sig .tc := ⟨.hbm, 53, rfl⟩
abbrev main_while0b_v14 : Ref sig .tc := ⟨.hbm, 54, rfl⟩
abbrev main_while0b_v15 : Ref sig .tc := ⟨.hbm, 55, rfl⟩
abbrev main_while0b_v16 : Ref sig .tc := ⟨.hbm, 56, rfl⟩
abbrev main_while0b_v17 : Ref sig .tc := ⟨.hbm, 57, rfl⟩
abbrev main_while0b_cst_9 : Ref sig .tc := ⟨.hbm, 58, rfl⟩
abbrev main_while0b_v18 : Ref sig .tc := ⟨.hbm, 59, rfl⟩
abbrev main_while0b_v19 : Ref sig .tc := ⟨.hbm, 60, rfl⟩
abbrev main_while0b_v20 : Ref sig .tc := ⟨.hbm, 61, rfl⟩
abbrev main_while0b_call3_v0 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_v21 : Ref sig .tc := ⟨.hbm, 65, rfl⟩
abbrev main_while0b_c_10 : Ref sig .tc := ⟨.hbm, 66, rfl⟩
abbrev main_while0b_v22 : Ref sig .tc := ⟨.hbm, 67, rfl⟩
abbrev main_v4 : Ref sig .tc := ⟨.hbm, 68, rfl⟩
abbrev main_v5 : Ref sig .tc := ⟨.hbm, 69, rfl⟩

abbrev nD : Nat := 1
abbrev τ : Topo := Topo.v7x

variable {F : FTy → Type} [FloatOps F]

abbrev main_while0_count : Scf.Loop 32 := ⟨0#32, 1024#32, 1#32⟩
-- ==== Proof.LogSum.lean ====
/-
  The scalar arithmetic of one step: the logarithm of a sum of five exponentials over the extended reals, and the two
  ways of computing it after subtracting a number from every term.
-/
module

public import Idealize.ShloMosaic.PureOps.Ideal
public import Mathlib.Algebra.BigOperators.Fin

@[expose] public section

noncomputable section

namespace Cert.Crf

open Idealize.ShloMosaic

/-- The logarithm of the sum of the exponentials of five numbers. -/
def logSum (s : Fin 5 → EReal) : EReal := Ideal.log (∑ j, Ideal.exp (s j))

/-- The same with `a` subtracted from every number first and added to the logarithm afterwards. -/
def shifted (s : Fin 5 → EReal) (a : EReal) : EReal := Ideal.log (∑ j, Ideal.exp (s j - a)) + a

/-- The largest of five numbers, in the order in which the kernel compares them. -/
def top5 (s : Fin 5 → EReal) : EReal := max (max (max (s 0) (s 1)) (max (s 2) (s 3))) (s 4)

/-- The exponential of a number other than `+∞` is a nonnegative real, and subtracting a real `r` from the number
    multiplies that real by `exp (-r)`. -/
theorem exp_real {x : EReal} (hx : x < ⊤) :
    ∃ a : ℝ, 0 ≤ a ∧ Ideal.exp x = a ∧ ∀ r : ℝ, Ideal.exp (x - r) = ((a * Real.exp (-r) : ℝ) : EReal) := by
  induction x with
  | bot => exact ⟨0, le_rfl, rfl, fun r => by rw [EReal.bot_sub, zero_mul]; rfl⟩
  | top => exact absurd hx (lt_irrefl _)
  | coe y =>
    exact ⟨Real.exp y, (Real.exp_pos y).le, rfl, fun r => by
      rw [← EReal.coe_sub, Ideal.exp_coe, sub_eq_add_neg, Real.exp_add]⟩

/-- Subtracting a real from five numbers below `+∞` and adding it back changes nothing. -/
theorem shifted_real {s : Fin 5 → EReal} (hs : ∀ j, s j < ⊤) (r : ℝ) : shifted s r = logSum s := by
  choose a ha he hr using fun j => exp_real (hs j)
  have hsum : (∑ j, Ideal.exp (s j)) = ((∑ j, a j : ℝ) : EReal) := by
    simp only [he, Fin.sum_univ_five, EReal.coe_add]
  have hsumr : (∑ j, Ideal.exp (s j - r)) = (((∑ j, a j) * Real.exp (-r) : ℝ) : EReal) := by
    rw [Finset.sum_mul]
    simp only [hr, Fin.sum_univ_five, EReal.coe_add]
  have h0 : 0 ≤ ∑ j, a j := Finset.sum_nonneg fun j _ => ha j
  have hp := Real.exp_pos (-r)
  unfold shifted logSum
  rw [hsum, hsumr, Ideal.log_coe, Ideal.log_coe]
  rcases h0.eq_or_lt with h | h
  · rw [← h, zero_mul, if_pos le_rfl, EReal.bot_add]
  · rw [if_neg (not_le.mpr (mul_pos h hp)), if_neg (not_le.mpr h), ← EReal.coe_add,
      Real.log_mul h.ne' hp.ne', Real.log_exp, neg_add_cancel_right]

/-- Five numbers below `+∞` have a logarithm of their sum of exponentials below `+∞`. -/
theorem logSum_lt_top {s : Fin 5 → EReal} (hs : ∀ j, s j < ⊤) : logSum s < ⊤ := by
  choose a _ he _ using fun j => exp_real (hs j)
  have hsum : (∑ j, Ideal.exp (s j)) = ((∑ j, a j : ℝ) : EReal) := by
    simp only [he, Fin.sum_univ_five, EReal.coe_add]
  unfold logSum
  rw [hsum, Ideal.log_coe]
  split
  · exact bot_lt_top
  · exact EReal.coe_lt_top _

theorem le_top5 (s : Fin 5 → EReal) (j : Fin 5) : s j ≤ top5 s := by
  unfold top5
  fin_cases j <;> simp

theorem top5_lt_top {s : Fin 5 → EReal} (hs : ∀ j, s j < ⊤) : top5 s < ⊤ :=
  max_lt (max_lt (max_lt (hs 0) (hs 1)) (max_lt (hs 2) (hs 3))) (hs 4)

/-- If every number is `-∞`, so is the logarithm of the sum of exponentials. -/
theorem logSum_bot {s : Fin 5 → EReal} (hs : ∀ j, s j = ⊥) : logSum s = ⊥ := by
  unfold logSum
  rw [Finset.sum_eq_zero fun j _ => by rw [hs j, Ideal.exp_bot], ← EReal.coe_zero, Ideal.log_coe, if_pos le_rfl]

/-- The kernel subtracts the largest number as it is. For numbers below `+∞` the result is the logarithm of the sum of
    exponentials: if the largest is a real by `shifted_real`, and if it is `-∞` both sides are `-∞`. -/
theorem shifted_top5 {s : Fin 5 → EReal} (hs : ∀ j, s j < ⊤) : shifted s (top5 s) = logSum s := by
  have ht := top5_lt_top hs
  have hle := le_top5 s
  generalize top5 s = a at ht hle
  induction a with
  | top => exact absurd ht (lt_irrefl _)
  | coe r => exact shifted_real hs r
  | bot =>
    rw [logSum_bot fun j => le_bot_iff.mp (hle j)]
    unfold shifted
    rw [EReal.add_bot]

/-- The largest number as the reference uses it: replaced by `0` where its absolute value is not below `+∞`. -/
def guarded (a : EReal) : EReal := if max a (-a) < ⊤ then a else 0

theorem guarded_real (a : EReal) : ∃ r : ℝ, guarded a = r := by
  unfold guarded
  induction a with
  | top => exact ⟨0, by rw [if_neg (by simp)]; rfl⟩
  | bot => exact ⟨0, by rw [if_neg (by simp)]; rfl⟩
  | coe r => exact ⟨r, if_pos (max_lt (EReal.coe_lt_top r) (by rw [← EReal.coe_neg]; exact EReal.coe_lt_top _))⟩

/-- The reference subtracts a guarded number. For numbers below `+∞` the result is the logarithm of the sum of
    exponentials, whatever the guard was given. -/
theorem shifted_guarded {s : Fin 5 → EReal} (hs : ∀ j, s j < ⊤) (a : EReal) : shifted s (guarded a) = logSum s := by
  obtain ⟨r, hr⟩ := guarded_real a
  rw [hr, shifted_real hs r]

end Cert.Crf

end
-- ==== Proof.Recurrence.lean ====
/-
  The mathematics both programs compute: forward scores of a chain whose state `r` is entered from the five states
  `source r j`, carried from one time step to the next.
-/
module

public import proofs.«01_k».proof.Proof.LogSum

@[expose] public section

noncomputable section

namespace Cert.Crf

open Idealize.ShloMosaic

/-- The state from which the `j`-th transition enters state `r`: `r` itself, then one state of each quarter. -/
def source (r : Fin 256) (j : Fin 5) : Fin 256 :=
  ⟨if j.val = 0 then r.val else (j.val - 1) * 64 + r.val / 4, by have := r.isLt; have := j.isLt; split <;> omega⟩

/-- A step's scores: for batch entry `n` and state `r`, the score of each of the five transitions into `r`. -/
abbrev Scores := Fin 16 → Fin 256 → Fin 5 → EReal

/-- The forward scores at one time, for batch entry `n` and state `r`. -/
abbrev State := Fin 16 → Fin 256 → EReal

/-- The five numbers that meet in state `r`: the forward score of the state each transition leaves plus its score. -/
def entering (x : Scores) (α : State) (n : Fin 16) (r : Fin 256) : Fin 5 → EReal :=
  fun j => α n (source r j) + x n r j

/-- One time step. -/
def next (x : Scores) (α : State) : State := fun n r => logSum (entering x α n r)

/-- The forward scores after `t` steps, from zero. -/
def alpha (x : ℕ → Scores) : ℕ → State
  | 0 => fun _ _ => 0
  | t + 1 => next (x t) (alpha x t)

/-- If no score is `+∞` then no forward score is. -/
theorem alpha_lt_top {x : ℕ → Scores} (hx : ∀ t n r j, x t n r j < ⊤) : ∀ t n r, alpha x t n r < ⊤
  | 0, _, _ => EReal.zero_lt_top
  | t + 1, n, r => logSum_lt_top fun j => EReal.add_lt_top (alpha_lt_top hx t n (source r j)).ne (hx t n r j).ne

/-- So the numbers that meet in a state at a step are all below `+∞`. -/
theorem entering_lt_top {x : ℕ → Scores} (hx : ∀ t n r j, x t n r j < ⊤) (t : ℕ) (n : Fin 16) (r : Fin 256)
    (j : Fin 5) : entering (x t) (alpha x t) n r j < ⊤ :=
  EReal.add_lt_top (alpha_lt_top hx t n (source r j)).ne (hx t n r j).ne

end Cert.Crf

end
-- ==== Proof.KernelStep.lean ====
/-
  What the kernel's body computes at one grid point: at the first point zeros, and at every other point one time step of
  the recurrence on the forward scores left by the point before, with the largest number subtracted as it is.
-/
module

public import proofs.«01_k».proof.Proof.Recurrence
public import proofs.«01_k».proof.Proof.Gen.KernelIdeal.Frame
public import Idealize.ShloMosaic.Lib.Pointwise
public import Idealize.ShloMosaic.Lib.Pipeline.Value
public import Idealize.ShloMosaic.Lib.Tactic

@[expose] public section

set_option maxRecDepth 16384

noncomputable section

namespace Cert.Crf.Kernel

open Idealize.ShloMosaic Idealize.ShloMosaic.TcCoe Idealize.SL.Sem
open Cert.KernelIdeal Cert.KernelIdeal.Gen

/-- The forward scores that a 16 × 256 block holds. -/
def stateOf (v : Vec Ideal S16x256 .f32) : State := fun n r => v (ix2 n r)

/-- The transition scores that a point's 1 × 5 × 16 × 256 input block holds. -/
def scoresOf (x : Vec Ideal S1x5x16x256 .f32) : Scores := fun n r j => x (ix4 0 j n r)

/-- One step as the body computes it. -/
def stepped (x : Scores) (α : State) : State := fun n r => shifted (entering x α n r) (top5 (entering x α n r))

theorem zero2 : (![0, 0] : Fin 2 → Nat) = fun _ => 0 := funext fun a => by fin_cases a <;> rfl

theorem zero3 : (![0, 0, 0] : Fin 3 → Nat) = fun _ => 0 := funext fun a => by fin_cases a <;> rfl

theorem source_zero (r : Fin 256) : source r 0 = r := rfl

theorem source_one (r : Fin 256) (h : r.val / 4 < 256) : source r 1 = ⟨r.val / 4, h⟩ :=
  Fin.ext (show (1 - 1) * 64 + r.val / 4 = r.val / 4 by omega)

theorem source_two (r : Fin 256) (h : 64 + r.val / 4 < 256) : source r 2 = ⟨64 + r.val / 4, h⟩ :=
  Fin.ext (show (2 - 1) * 64 + r.val / 4 = 64 + r.val / 4 by omega)

theorem source_three (r : Fin 256) (h : 128 + r.val / 4 < 256) : source r 3 = ⟨128 + r.val / 4, h⟩ :=
  Fin.ext (show (3 - 1) * 64 + r.val / 4 = 128 + r.val / 4 by omega)

theorem source_four (r : Fin 256) (h : 192 + r.val / 4 < 256) : source r 4 = ⟨192 + r.val / 4, h⟩ :=
  Fin.ext (show (4 - 1) * 64 + r.val / 4 = 192 + r.val / 4 by omega)

variable (c : Dev nD) (i : grid0.Coords) (a1 : Memref sig .tc .vmem S1x5x16x256 .f32) (h1 : a1.IsWhole)
  (a2 : Memref sig .tc .vmem S1x16x256 .f32) (h2 : a2.IsWhole) (a3 : Memref sig .tc .vmem S16x256 .f32)
  (h3 : a3.IsWhole)

set_option maxHeartbeats 2000000 in
/-- At a point other than the first, the carried block is left one step further: each state's five numbers are formed
    from the block's quarters repeated four times, and combined after subtracting the largest. -/
theorem carried_step (hc0 : ¬cond0_0 i) (hc1 : cond0_1 i) (x : Vec Ideal S1x5x16x256 .f32)
    (α : Vec Ideal S16x256 .f32) :
    stateOf (sout0_B_0 c i a1 h1 a2 h2 a3 h3 hc0 hc1 x α) = stepped (scoresOf x) (stateOf α) := by
  funext n r
  have hr := r.isLt
  unfold stateOf stepped shifted top5 entering scoresOf sout0_B_0
  rw [View.read_writes_eq_canon _ _ _ (scover0_B_0 c i a1 h1 a2 h2 a3 h3 hc0 hc1 x α)]
  unfold kernelRun0_B
  dsimp only
  sl_unfold_words
  rw [View.canon_unit_zero zero2]
  simp only [View.readAt_eq_ld, h1.read_unread, h3.read_unread, View.ld_unit_zero (S := S16x256) zero2, shapeCast_self]
  pointwise [k0_pay4, k0_pay3, k0_pay6, k0_pay7, k0_pay8, k0_pay9, k0_pay10, k0_pay11, k0_pay12]
  rw [Fin.sum_univ_five, source_zero, source_one r (by omega), source_two r (by omega), source_three r (by omega),
    source_four r (by omega), add_comm (x (ix4 0 0 n r)), add_comm (x (ix4 0 1 n r)), add_comm (x (ix4 0 2 n r)),
    add_comm (x (ix4 0 3 n r)), add_comm (x (ix4 0 4 n r))]

/-- The output block is left equal to the carried block. -/
theorem written_step (hc0 : ¬cond0_0 i) (hc1 : cond0_1 i) (x : Vec Ideal S1x5x16x256 .f32)
    (α : Vec Ideal S16x256 .f32) (n : Fin 16) (r : Fin 256) :
    out0_B_1 c i a1 h1 a2 h2 a3 h3 hc0 hc1 x α (ix3 0 n r)
      = stateOf (sout0_B_0 c i a1 h1 a2 h2 a3 h3 hc0 hc1 x α) n r := by
  unfold stateOf sout0_B_0 out0_B_1
  rw [View.read_writes_eq_canon _ _ _ (scover0_B_0 c i a1 h1 a2 h2 a3 h3 hc0 hc1 x α),
    View.read_writes_eq_canon _ _ _ (cover0_B_1 c i a1 h1 a2 h2 a3 h3 hc0 hc1 x α)]
  unfold kernelRun0_B
  dsimp only
  sl_unfold_words
  rw [View.canon_unit_zero zero3, View.canon_unit_zero zero2]
  pointwise [k0_pay4, k0_pay5]

/-- At the first point the carried block is left at zero. -/
theorem carried_zero (hc0 : cond0_0 i) (hc1 : ¬cond0_1 i) (x : Vec Ideal S1x5x16x256 .f32) (n : Fin 16)
    (r : Fin 256) : stateOf (sout0_A_0 c i a1 h1 a2 h2 a3 h3 hc0 hc1 x) n r = 0 := by
  unfold stateOf sout0_A_0
  rw [View.read_writes_eq_canon _ _ _ (scover0_A_0 c i a1 h1 a2 h2 a3 h3 hc0 hc1 x)]
  unfold kernelRun0_A
  dsimp only
  sl_unfold_words
  rw [View.canon_unit_zero zero2]
  pointwise [k0_pay1]

/-- At the first point the output block is left at zero. -/
theorem written_zero (hc0 : cond0_0 i) (hc1 : ¬cond0_1 i) (x : Vec Ideal S1x5x16x256 .f32) (n : Fin 16)
    (r : Fin 256) : out0_A_1 c i a1 h1 a2 h2 a3 h3 hc0 hc1 x (ix3 0 n r) = 0 := by
  unfold out0_A_1
  rw [View.read_writes_eq_canon _ _ _ (cover0_A_1 c i a1 h1 a2 h2 a3 h3 hc0 hc1 x)]
  unfold kernelRun0_A
  dsimp only
  sl_unfold_words
  rw [View.canon_unit_zero zero3]
  pointwise [k0_pay2]

end Cert.Crf.Kernel

end
-- ==== Proof.Scores.lean ====
/-
  The argument and the result as arrays: how the recurrence's scores lie in the argument, and the result array that holds
  every forward score.
-/
module

public import proofs.«01_k».proof.Proof.Recurrence
public import Idealize.ShloMosaic.Lib.Pointwise

@[expose] public section

noncomputable section

namespace Cert.Crf

open Idealize.ShloMosaic

/-- The scores array read by time step, batch entry, state and transition (`0` past the last time step): column
    `5 * r + j` holds transition `j` into state `r`. -/
def scoresAt (v : Vec Ideal ⟨3, ![1024, 16, 1280]⟩ .f32) (t : ℕ) : Scores := fun n r j =>
  if h : t < 1024 then v (ix3 ⟨t, h⟩ n ⟨r.val * 5 + j.val, by have := r.isLt; have := j.isLt; omega⟩) else 0

/-- No element of the array is `+∞`. -/
def Bounded (v : Vec Ideal ⟨3, ![1024, 16, 1280]⟩ .f32) : Prop := ∀ i, v i < (⊤ : EReal)

/-- Then no score is `+∞`. -/
theorem scoresAt_lt_top {v : Vec Ideal ⟨3, ![1024, 16, 1280]⟩ .f32} (hv : Bounded v) (t : ℕ) (n : Fin 16)
    (r : Fin 256) (j : Fin 5) : scoresAt v t n r j < ⊤ := by
  unfold scoresAt
  split
  · exact hv _
  · exact EReal.zero_lt_top

/-- The result array: the forward scores at times `0` to `1024`. -/
def forward (v : Vec Ideal ⟨3, ![1024, 16, 1280]⟩ .f32) : Vec Ideal ⟨3, ![1025, 16, 256]⟩ .f32 :=
  fun i => alpha (scoresAt v) (i 0).val (i 1) (i 2)

end Cert.Crf

end
-- ==== Proof.KernelInput.lean ====
/-
  What the kernel reads of its argument: at grid point `t + 1` the input block holds time step `t` of the scores.
-/
module

public import proofs.«01_k».proof.Proof.KernelStep
public import proofs.«01_k».proof.Proof.Scores
public import proofs.«01_k».proof.Proof.Gen.KernelIdeal.Value
public import Idealize.ShloMosaic.Lib.Claim

@[expose] public section

set_option maxRecDepth 16384

noncomputable section

namespace Cert.Crf

open Idealize.ShloMosaic

namespace Kernel

open Idealize.ShloMosaic.TcCoe Idealize.SL.Sem
open Cert.KernelIdeal Cert.KernelIdeal.Gen

variable (m : (ℓ : Loc nD τ sig) → Buf (Elt Ideal) ℓ)

/-- The block that the kernel reads at each point after the first: the time step before the point's number. -/
theorem index_succ : ∀ t : Fin 1024, win0_0.index ⟨t.val + 1, by rw [N_0]; omega⟩ = ![t.val, 0, 0, 0] := by
  decide +kernel

/-- So the input block at grid point `t + 1` holds the scores of time step `t`. -/
theorem block_scores (c : Dev nD) (t : ℕ) (h : t + 1 < cfg0.N) :
    scoresOf (iblk m c 0 ⟨t + 1, h⟩) = scoresAt (m ((c : Thread nD τ).loc main_arg0)) t := by
  have ht : t < 1024 := by have := lt_of_lt_of_eq h N_0; omega
  funext n r j
  unfold scoresOf scoresAt iblk
  rw [dif_pos ht, View.read_apply]
  show V m c main_call0_v1 _ = _
  have e : ((cfg0.win 0).blk ⟨t + 1, h⟩).view.emb (ix4 0 j n r) = ix4 ⟨t, ht⟩ j n r := by
    have hi := index_succ ⟨t, ht⟩
    funext a
    apply Fin.ext
    match a with
    | ⟨0, _⟩ =>
      show win0_0.index ⟨t + 1, h⟩ 0 * 1 + 1 * 0 = t
      rw [hi]; show t * 1 + 1 * 0 = t; omega
    | ⟨1, _⟩ =>
      show win0_0.index ⟨t + 1, h⟩ 1 * 5 + 1 * j.val = j.val
      rw [hi]; show 0 * 5 + 1 * j.val = j.val; omega
    | ⟨2, _⟩ =>
      show win0_0.index ⟨t + 1, h⟩ 2 * 16 + 1 * n.val = n.val
      rw [hi]; show 0 * 16 + 1 * n.val = n.val; omega
    | ⟨3, _⟩ =>
      show win0_0.index ⟨t + 1, h⟩ 3 * 256 + 1 * r.val = r.val
      rw [hi]; show 0 * 256 + 1 * r.val = r.val; omega
  rw [e]
  entry_read
  simp only [StableHlo.TRef.toBuf, StableHlo.TRef.ofBuf, cast_cast, cast_eq]
  pointwise

end Kernel

end Cert.Crf

end
-- ==== Proof.KernelValue.lean ====
/-
  The kernel's result: the state it carries after grid point `t`, and the block it writes there, are the forward scores
  at time `t`, so its result array is `forward` of its argument whenever no score is `+∞`.
-/
module

public import proofs.«01_k».proof.Proof.KernelInput

@[expose] public section

set_option maxRecDepth 16384

noncomputable section

namespace Cert.Crf.Kernel

open Idealize.ShloMosaic Idealize.ShloMosaic.TcCoe Idealize.SL.Sem
open Cert.KernelIdeal Cert.KernelIdeal.Gen

variable (m : (ℓ : Loc nD τ sig) → Buf (Elt Ideal) ℓ)

/-- Where no score is `+∞`, the body's step from the forward scores at a time gives those at the next time. -/
theorem stepped_alpha {x : ℕ → Scores} (hx : ∀ t n r j, x t n r j < ⊤) (t : ℕ) :
    stepped (x t) (alpha x t) = alpha x (t + 1) :=
  funext fun n => funext fun r => shifted_top5 (entering_lt_top hx t n r)

/-- After grid point `t` the carried block and the output block both hold the forward scores at time `t`. -/
theorem after_point (c : Dev nD) (hv : Bounded (m ((c : Thread nD τ).loc main_arg0))) :
    ∀ (t : ℕ) (h : t < cfg0.N),
      stateOf (outsAt0 m c t h).2 = alpha (scoresAt (m ((c : Thread nD τ).loc main_arg0))) t
      ∧ ∀ (n : Fin 16) (r : Fin 256),
        (outsAt0 m c t h).1 (ix3 0 n r) = alpha (scoresAt (m ((c : Thread nD τ).loc main_arg0))) t n r
  | 0, h => by
    rw [outsAt0_A m c ⟨0, h⟩ (Nat.zero_mod _) (by show ¬1 ≤ 0; omega)]
    dsimp only
    exact ⟨funext fun n => funext fun r => carried_zero .., fun n r => written_zero ..⟩
  | t + 1, h => by
    have hN : t + 1 < 1025 := lt_of_lt_of_eq h N_0
    have ih := (after_point c hv t (Nat.lt_of_succ_lt h)).1
    rw [outsAt0_B m c ⟨t + 1, h⟩ (by show ¬(t + 1) % 1025 = 0; omega) (by show 1 ≤ t + 1; omega)]
    dsimp only
    have hs : stateOf (outsAt0 m c (t + 1 - 1) (Nat.lt_of_le_of_lt (Nat.sub_le _ _) h)).2
        = alpha (scoresAt (m ((c : Thread nD τ).loc main_arg0))) t := ih
    refine ⟨?_, fun n r => ?_⟩
    · rw [carried_step, block_scores m c t h, hs, stepped_alpha (scoresAt_lt_top hv)]
    · rw [written_step, carried_step, block_scores m c t h, hs, stepped_alpha (scoresAt_lt_top hv)]

/-- So the result array is `forward` of the argument. -/
theorem result_eq (c : Dev nD) (hv : Bounded (m ((c : Thread nD τ).loc main_arg0))) :
    Cert.KernelIdeal.Value.G1 m c = forward (m ((c : Thread nD τ).loc main_arg0)) := by
  funext i
  have h0 : (i 0).val < 1025 := (i 0).isLt
  have h1 : (i 1).val < 16 := (i 1).isLt
  have h2 : (i 2).val < 256 := (i 2).isLt
  have hp : Cert.KernelIdeal.Value.pt1Of i = (i 0).val := by
    show 1 * ((i 0).val / 1 - 0) + 1 * ((i 1).val / 16 - 0) + 1 * ((i 2).val / 256 - 0) = (i 0).val
    omega
  have hl : Cert.KernelIdeal.Value.loc1Of i = ix3 0 (i 1) (i 2) := by
    funext a
    apply Fin.ext
    match a with
    | ⟨0, _⟩ => show (i 0).val % 1 = 0; omega
    | ⟨1, _⟩ => show (i 1).val % 16 = (i 1).val; omega
    | ⟨2, _⟩ => show (i 2).val % 256 = (i 2).val; omega
  have hN : (i 0).val < cfg0.N := lt_of_lt_of_eq h0 N_0.symm
  unfold Cert.KernelIdeal.Value.G1 forward
  rw [dif_pos (by rw [hp]; exact hN), hl,
    Cert.KernelIdeal.Value.fold0_congr m c _ _ (i 0).val (by omega) hp,
    ← Cert.KernelIdeal.Value.outsAt0_sweep m c (i 0).val hN]
  exact (after_point m c hv (i 0).val hN).2 (i 1) (i 2)

end Cert.Crf.Kernel

end
-- ==== Proof.Precondition.lean ====
/-
  The precondition: where the predicate `no_plus_inf` holds of an array, no element of it is `+∞`.
-/
module

public import proofs.«01_k».proof.Pre_no_plus_inf
public import proofs.«01_k».proof.Proof.Scores
public import Idealize.ShloMosaic.Lib.ReduceAll
public import Idealize.ShloMosaic.Lib.Tactic

@[expose] public section

noncomputable section

namespace Cert.Crf.Precondition

open Idealize.ShloMosaic Cert.Pre_no_plus_inf

/-- The shape relations that the predicate's operations take. -/
theorem facts : Facts where
  bcast_S_S1024x16x1280 := by decide
  reducesTo_S1024x16x1280_S_d0_1_2 := by decide
  h_S_ := by decide

/-- The predicate holds only where no element is `+∞`. -/
theorem bounded [Facts] (v : Vec Ideal ⟨3, ![1024, 16, 1280]⟩ .f32) (h : fn (F := Ideal) v = fun _ => 1#1) : Bounded v := by
  intro i
  have hs : Subsingleton S_.Idx := ⟨fun a b => funext fun k => k.elim0⟩
  have e := Host.reduce_andi_all _ _ _ _ (fun k => k.elim0) (congrFun h _) i
  have e' : BitVec.ofBool (decide (v i < Ideal.ofBits .f32 0x7F800000#32)) = 1#1 := e
  rw [show Ideal.ofBits .f32 0x7F800000#32 = (⊤ : EReal) from by simp [Ideal.ofBits, Ideal.ieee]] at e'
  by_contra hc
  rw [decide_eq_false hc] at e'
  exact absurd e' (by decide)

end Cert.Crf.Precondition

end
-- ==== Proof.ReferenceOps.lean ====
/-
  The reference's index arithmetic, apart from its arrays: the table of source states, the gather through it, and the
  block that a dynamic slice reads or a dynamic update writes at the trip's own number.
-/
module

public import proofs.«01_k».proof.Proof.Scores
public import proofs.«01_k».proof.Proof.Gen.ReferenceIdeal.Run
public import Idealize.ShloMosaic.Lib.Tactic
public import Idealize.ShloMosaic.Lib.Claim
public import Idealize.ShloMosaic.Lib.DynamicIndex
public import Idealize.ShloMosaic.Lib.StableHlo.ReadAt

@[expose] public section

set_option maxRecDepth 16384

noncomputable section

namespace Cert.Crf.Reference

open Idealize.ShloMosaic Idealize.ShloMosaic.TcCoe Idealize.SL.Sem
open Idealize.ShloMosaic.StableHlo
open Cert.ReferenceIdeal Cert.ReferenceIdeal.Gen Cert.ReferenceIdeal.Value

/-- The program's table holds at `(r, j)` the word of the state that the `j`-th transition into `r` leaves. -/
theorem lit0_at (r : Fin 256) (j : Fin 5) : lit0 (S256x5.rowMajor (ix2 r j)) = BitVec.ofNat 32 (source r j).val := by
  revert r j; decide +kernel

/-- A state's number is at least zero and at most 255, as the lookup's range test reads it. -/
theorem in_range (s : Fin 256) : IntOp.cmpi .sge (BitVec.ofNat 32 s.val) 0#32 = 1#1 ∧
    IntOp.cmpi .sle (BitVec.ofNat 32 s.val) 255#32 = 1#1 := by
  revert s; decide +kernel

/-- The lookup's wrapping of negative indices leaves a state's number alone. -/
theorem select_in_range (s : Fin 256) :
    Scalar.select (IntOp.cmpi .slt (BitVec.ofNat 32 s.val) 0#32) (IntOp.addi (BitVec.ofNat 32 s.val) 256#32)
      (BitVec.ofNat 32 s.val) = BitVec.ofNat 32 s.val := by
  revert s; decide +kernel

/-- The conjunction of a single true bit is true. -/
theorem fold_one {f : Fin 1 → BitVec 1} (hf : ∀ x, f x = 1#1) : Finset.fold IntOp.andi (1#1) f Finset.univ = 1#1 := by
  rw [show f = fun _ => 1#1 from funext hf]
  decide

/-- The gather along the states: where the index array holds the number of state `s`, the entry is the operand's at `s`. -/
theorem gather_lookup {α : Type} (x : S16x256.Idx → α) (idx : IVec S256x5x1 32) (n : Fin 16) (r : Fin 256) (j : Fin 5)
    (s : Fin 256) (h : idx (ix3 r j 0) = BitVec.ofNat 32 s.val) :
    Host.gather gather_S16x256_S256x5x1_S16x256x5_0_1_n_n_1_2_161 x idx (ix3 n r j) = x (ix2 n s) := by
  unfold Host.gather
  congr 1
  funext a
  refine Fin.ext ?_
  generalize hd : gather_S16x256_S256x5x1_S16x256x5_0_1_n_n_1_2_161 = d
  show d.start (ix3 n r j) idx a + d.batchCoord (ix3 n r j) a + d.offCoord (ix3 n r j) a = _
  subst hd
  match a with
  | ⟨0, _⟩ =>
    rw [GatherDims.batchCoord_eq_zero _ _ _ List.not_mem_nil]
    unfold GatherDims.start
    rw [dif_neg (show ⟨0, _⟩ ∉ gather_S16x256_S256x5x1_S16x256x5_0_1_n_n_1_2_161.startIndexMap from
      fun h => absurd (congrArg Fin.val (List.mem_singleton.mp h)) Nat.zero_ne_one)]
    show 0 + 0 + n.val = n.val
    omega
  | ⟨1, _⟩ =>
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show ⟨1, _⟩ ∈ gather_S16x256_S256x5x1_S16x256x5_0_1_n_n_1_2_161.startIndexMap from
      List.mem_singleton.mpr rfl)]
    have hsi : ∀ hlt, gather_S16x256_S256x5x1_S16x256x5_0_1_n_n_1_2_161.siIdx (ix3 n r j)
        ⟨List.idxOf (1 : Fin 2) gather_S16x256_S256x5x1_S16x256x5_0_1_n_n_1_2_161.startIndexMap, hlt⟩ = ix3 r j 0 := by
      intro hlt
      funext b; refine Fin.ext ?_
      match b with
      | ⟨0, _⟩ => rfl
      | ⟨1, _⟩ => rfl
      | ⟨2, _⟩ => rfl
    erw [hsi]
    rw [h, toInt_ofNat_of_lt (by have := s.isLt; omega)]
    show min s.val 255 + 0 + 0 = s.val
    have := s.isLt; omega

/-- The loop counter at trip `t`, read as an integer, is `t`. -/
theorem iv_toInt {t : ℕ} (ht : t < 1024) : (Scf.iv 0#32 1#32 t).toInt = (t : Int) := by
  rw [Scf.iv, BitVec.zero_add, BitVec.mul_one, toInt_ofNat_of_lt (by omega)]

/-- A dynamic slice whose start is `(t, 0, 0, 0)` reads row `t`. -/
theorem read_slice {α : Type} (x : S1024x16x256x5.Idx → α) {st : Fin 4 → Int} {t : ℕ} (ht : t < 1024) (n : Fin 16) (r : Fin 256) (j : Fin 5)
    (h0 : st 0 = (t : Int)) (h1 : st 1 = 0) (h2 : st 2 = 0) (h3 : st 3 = 0) {hr : S1x16x256x5.rank = S1024x16x256x5.rank} {p0 p1 p2 p3} :
    x (ix4 (⟨Host.clampedStart S1024x16x256x5 S1x16x256x5 hr st 0, p0⟩ : Fin 1024)
      (⟨Host.clampedStart S1024x16x256x5 S1x16x256x5 hr st 1 + n.val, p1⟩ : Fin 16)
      (⟨Host.clampedStart S1024x16x256x5 S1x16x256x5 hr st 2 + r.val, p2⟩ : Fin 256)
      (⟨Host.clampedStart S1024x16x256x5 S1x16x256x5 hr st 3 + j.val, p3⟩ : Fin 5)) = x (ix4 (⟨t, ht⟩ : Fin 1024) n r j) := by
  have c0 := Host.clampedStart_of_le (s := S1024x16x256x5) (t := S1x16x256x5) hr st 0 t h0 (by show t + 1 ≤ 1024; omega)
  have c1 := Host.clampedStart_of_le (s := S1024x16x256x5) (t := S1x16x256x5) hr st 1 0 h1 (by show 0 + 16 ≤ 16; omega)
  have c2 := Host.clampedStart_of_le (s := S1024x16x256x5) (t := S1x16x256x5) hr st 2 0 h2 (by show 0 + 256 ≤ 256; omega)
  have c3 := Host.clampedStart_of_le (s := S1024x16x256x5) (t := S1x16x256x5) hr st 3 0 h3 (by show 0 + 5 ≤ 5; omega)
  simp only [c0, c1, c2, c3, Nat.zero_add]

/-- A dynamic update whose start is `(t, 0, 0)` replaces row `t` and keeps every other row. -/
theorem read_update {α : Type} (x : S1024x16x256.Idx → α) (y : S16x256.Idx → α) {st : Fin 3 → Int} {t : ℕ} (ht : t < 1024) (i : Fin 1024) (n : Fin 16) (r : Fin 256)
    (h0 : st 0 = (t : Int)) (h1 : st 1 = 0) (h2 : st 2 = 0) {hr : S1x16x256.rank = S1024x16x256.rank} :
    (if h : (Host.clampedStart S1024x16x256 S1x16x256 hr st 0 ≤ i.val ∧ i.val < Host.clampedStart S1024x16x256 S1x16x256 hr st 0 + 1) ∧
        Host.clampedStart S1024x16x256 S1x16x256 hr st 1 ≤ n.val ∧ Host.clampedStart S1024x16x256 S1x16x256 hr st 2 ≤ r.val then
      y (ix2 (⟨n.val - Host.clampedStart S1024x16x256 S1x16x256 hr st 1, (Nat.sub_le _ _).trans_lt n.isLt⟩ : Fin 16) (⟨r.val - Host.clampedStart S1024x16x256 S1x16x256 hr st 2, (Nat.sub_le _ _).trans_lt r.isLt⟩ : Fin 256))
    else x (ix3 i n r)) = if i.val = t then y (ix2 n r) else x (ix3 i n r) := by
  have c0 := Host.clampedStart_of_le (s := S1024x16x256) (t := S1x16x256) hr st 0 t h0 (by show t + 1 ≤ 1024; omega)
  have c1 := Host.clampedStart_of_le (s := S1024x16x256) (t := S1x16x256) hr st 1 0 h1 (by show 0 + 16 ≤ 16; omega)
  have c2 := Host.clampedStart_of_le (s := S1024x16x256) (t := S1x16x256) hr st 2 0 h2 (by show 0 + 256 ≤ 256; omega)
  simp only [c0, c1, c2, Nat.sub_zero, Nat.zero_le, and_true]
  by_cases hi : i.val = t
  · rw [dif_pos (by omega), if_pos hi]
  · rw [dif_neg (by omega), if_neg hi]

end Cert.Crf.Reference

end
-- ==== Proof.ReferenceStep.lean ====
/-
  One trip of the reference's loop, over any contents of its buffers: the body's seven stretches of operations read one
  after another, then joined into what a trip does to the carried arrays.
-/
module

public import proofs.«01_k».proof.Proof.Scores
public import proofs.«01_k».proof.Proof.Gen.ReferenceIdeal.Run
public import Idealize.ShloMosaic.Lib.Tactic
public import Idealize.ShloMosaic.Lib.Claim
public import Idealize.ShloMosaic.Lib.DynamicIndex
public import Idealize.ShloMosaic.Lib.StableHlo.ReadAt
public import proofs.«01_k».proof.Proof.ReferenceOps

@[expose] public section

set_option maxRecDepth 16384

noncomputable section

namespace Cert.Crf.Reference

open Idealize.ShloMosaic Idealize.ShloMosaic.TcCoe Idealize.SL.Sem
open Idealize.ShloMosaic.StableHlo
open Cert.ReferenceIdeal Cert.ReferenceIdeal.Gen Cert.ReferenceIdeal.Value

variable (V : Valuation τ sig (Elt Ideal))

/-- The carried forward scores, as a function of batch entry and state. -/
def state : State := fun n r => V (Proc.devRef .tc main_v3_3) (ix2 n r)

/-- The scores of step `t` in the carried array of all scores. -/
def scores (t : ℕ) (ht : t < 1024) : Scores := fun n r j => V (Proc.devRef .tc main_v3_0) (ix4 (⟨t, ht⟩ : Fin 1024) n r j)

/-- The carried table holds the source states. -/
def HasTable : Prop := ∀ r j, V (Proc.devRef .tc main_v3_1) (ix2 r j) = BitVec.ofNat 32 (source r j).val

/-- The loop counter is at trip `t`. -/
def AtTrip (t : ℕ) : Prop := V (Proc.devRef .tc main_v3_2) = fun _ => Scf.iv 0#32 1#32 t

/-- The first stretch reads the trip's own scores. -/
theorem read_scores {t : ℕ} (ht : t < 1024) (h : AtTrip V t)
   (n : Fin 16) (r : Fin 256) (j : Fin 5) :
   after while0Ops0 V (Proc.devRef .tc main_while0b_v6) (ix3 n r j) = scores V t ht n r j := by
  unfold scores
  after_reads_at
  refine read_slice _ ht n r j ?_ ?_ ?_ ?_
  · show BitVec.toInt (upto while0Ops0 V 3 (Proc.devRef .tc main_v3_2) _) = _
    after_reads_simp
    rw [show V (Proc.devRef .tc main_v3_2) = _ from h]
    exact iv_toInt ht
  · show BitVec.toInt (upto while0Ops0 V 3 (Proc.devRef .tc main_while0b_call0_c) _) = _
    after_reads_simp
    rfl
  · show BitVec.toInt (upto while0Ops0 V 3 (Proc.devRef .tc main_while0b_call0_c_0) _) = _
    after_reads_simp
    rfl
  · show BitVec.toInt (upto while0Ops0 V 3 (Proc.devRef .tc main_while0b_call0_c_1) _) = _
    after_reads_simp
    rfl

/-- The second stretch looks the forward scores up at the source states. -/
theorem read_sources (h : HasTable V) (n : Fin 16) (r : Fin 256) (j : Fin 5) :
   after while0Ops0_1 V (Proc.devRef .tc main_while0b_v7) (ix3 n r j) = state V n (source r j) := by
  unfold state
  after_reads_at
  rw [gather_lookup (s := source r j)]
  · rw [show V (Proc.devRef .tc main_v3_1) (ix2 r j) = _ from h r j, fold_one]
    · rfl
    · intro x
      rw [select_in_range, (in_range _).1, (in_range _).2]
      rfl
  · pointwise
    rw [show V (Proc.devRef .tc main_v3_1) (ix2 r j) = _ from h r j, select_in_range]

/-- The sums of two arrays' entries over the five transitions into state `r`. -/
def met (a b : Vec Ideal ⟨3, ![16, 256, 5]⟩ .f32) (n : Fin 16) (r : Fin 256) : Fin 5 → EReal :=
  fun j => a (ix3 n r j) + b (ix3 n r j)

/-- The five numbers that meet in state `r`, as the third stretch adds them. -/
def meeting (n : Fin 16) (r : Fin 256) : Fin 5 → EReal :=
  met (V (Proc.devRef .tc main_while0b_v7)) (V (Proc.devRef .tc main_while0b_v6)) n r

/-- Their greatest. -/
def greatest (n : Fin 16) (r : Fin 256) : EReal :=
  Finset.fold max (Ideal.ofBits .f32 4286578688#32) (meeting V n r) Finset.univ

/-- The third stretch adds. -/
theorem add_at (n : Fin 16) (r : Fin 256) (j : Fin 5) :
    after while0Ops0_2 V (Proc.devRef .tc main_while0b_v8) (ix3 n r j) = meeting V n r j := by
  unfold meeting met
  after_reads_at

/-- The third stretch takes the greatest. -/
theorem max_at (n : Fin 16) (r : Fin 256) :
    after while0Ops0_2 V (Proc.devRef .tc main_while0b_v9) (ix2 n r) = greatest V n r := by
  unfold greatest meeting met
  after_reads_at

/-- The third stretch tests whether the greatest is finite. -/
theorem finite_at (n : Fin 16) (r : Fin 256) :
    after while0Ops0_2 V (Proc.devRef .tc main_while0b_v12) (ix2 n r) =
      BitVec.ofBool (decide (max (greatest V n r) (-greatest V n r) < Ideal.ofBits .f32 2139095040#32)) := by
  unfold greatest meeting met
  after_reads_at
  rfl

/-- The number that replaces a greatest that is not finite is zero. -/
theorem zero_at : after while0Ops0_2 V (Proc.devRef .tc main_while0b_cst_8) ix0 = (0 : EReal) := by
  after_reads_at

/-- The fourth stretch selects the greatest or the replacement. -/
theorem guard_at (n : Fin 16) (r : Fin 256) :
    after while0Ops0_3 V (Proc.devRef .tc main_while0b_v13) (ix2 n r) =
      Scalar.select (V (Proc.devRef .tc main_while0b_v12) (ix2 n r)) (V (Proc.devRef .tc main_while0b_v9) (ix2 n r))
        (V (Proc.devRef .tc main_while0b_cst_8) ix0) := by
  after_reads_at
  rfl

/-- An array's five entries at batch entry `n` and state `r`. -/
def five (a : Vec Ideal ⟨3, ![16, 256, 5]⟩ .f32) (n : Fin 16) (r : Fin 256) : Fin 5 → EReal := fun j => a (ix3 n r j)

/-- The fifth stretch takes the logarithm of the sum of exponentials, shifted by the selected number. -/
theorem sum_at (n : Fin 16) (r : Fin 256) :
    after while0Ops0_4 V (Proc.devRef .tc main_while0b_v20) (ix2 n r) =
      shifted (five (V (Proc.devRef .tc main_while0b_v8)) n r) (V (Proc.devRef .tc main_while0b_v13) (ix2 n r)) := by
  unfold shifted five
  after_reads_at

/-- The sixth stretch writes the new forward scores as row `t` of the collected array. -/
theorem write_row {t : ℕ} (ht : t < 1024) (h : AtTrip V t)
   (i : Fin 1024) (n : Fin 16) (r : Fin 256) :
   after while0Ops0_5 V (Proc.devRef .tc main_while0b_v21) (ix3 i n r) = if i.val = t then V (Proc.devRef .tc main_while0b_v20) (ix2 n r) else V (Proc.devRef .tc main_v3_4) (ix3 i n r) := by
  after_reads_at
  refine read_update _ _ ht i n r ?_ ?_ ?_
  · show BitVec.toInt (upto while0Ops0_5 V 3 (Proc.devRef .tc main_v3_2) _) = _
    after_reads_simp
    rw [show V (Proc.devRef .tc main_v3_2) = _ from h]
    exact iv_toInt ht
  · show BitVec.toInt (upto while0Ops0_5 V 3 (Proc.devRef .tc main_while0b_call3_c) _) = _
    after_reads_simp
    rfl
  · show BitVec.toInt (upto while0Ops0_5 V 3 (Proc.devRef .tc main_while0b_call3_c_0) _) = _
    after_reads_simp
    rfl

/-- The fourth and fifth stretches after the third: the shifted logarithm of the numbers that meet, the shift their
    greatest where that is finite. -/
theorem new_state_at (n : Fin 16) (r : Fin 256) :
    after while0Ops0_4 (after while0Ops0_3 (after while0Ops0_2 V)) (Proc.devRef .tc main_while0b_v20) (ix2 n r) =
      shifted (meeting V n r) (guarded (greatest V n r)) := by
  rw [sum_at, guard_at, max_at, finite_at, zero_at]
  have h8 : five (after while0Ops0_3 (after while0Ops0_2 V) (Proc.devRef .tc main_while0b_v8)) n r = meeting V n r := by
    rw [after_of_writes_sub while0Ops0_3 _ while0Ops0_3_writes (by decide +kernel)]
    exact funext (add_at V n r)
  rw [h8]
  congr 1
  unfold guarded
  rw [show Ideal.ofBits .f32 2139095040#32 = (⊤ : EReal) from by simp [Ideal.ofBits, Ideal.ieee]]
  by_cases h : max (greatest V n r) (-greatest V n r) < ⊤
  · rw [if_pos h, decide_eq_true h]; rfl
  · rw [if_neg h, decide_eq_false h]; rfl

/-- The last stretch carries the new forward scores to the next trip. -/
theorem carry_state : after while0Ops0_6 V (Proc.devRef .tc main_v3_3) = V (Proc.devRef .tc main_while0b_v20) := by
  after_reads_simp
  rfl

/-- And the collected array. -/
theorem carry_rows : after while0Ops0_6 V (Proc.devRef .tc main_v3_4) = V (Proc.devRef .tc main_while0b_v21) := by
  after_reads_simp
  rfl

/-- What a buffer holds after a whole trip: the loop's test, then the body's stretches. -/
def trip : Valuation τ sig (Elt Ideal) := afterL bodyI (after condOps V)

/-- A buffer that neither the loop's test nor its body writes. -/
theorem trip_kept {b : DevRef τ sig} (hb : b = Proc.devRef .tc main_arg0 ∨ b = Proc.devRef .tc main_v1 ∨ b = Proc.devRef .tc main_v3_0 ∨ b = Proc.devRef .tc main_v3_1) :
    trip V b = V b := by
  unfold trip
  simp only [afterL_cons, afterL_nil]
  rcases hb with rfl | rfl | rfl | rfl <;>
  rw [after_of_writes_sub while0Ops0_6 _ while0Ops0_6_writes (by decide +kernel),
    after_of_writes_sub while0Ops0_5 _ while0Ops0_5_writes (by decide +kernel),
    after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

/-- What the buffers hold when a trip's first two stretches have run. -/
def looked : Valuation τ sig (Elt Ideal) := after while0Ops0_1 (after while0Ops0 (after condOps V))

/-- After the first two stretches the five numbers that meet are the recurrence's: the carried forward scores at the
    source states plus the trip's scores. -/
theorem meeting_looked {t : ℕ} (ht : t < 1024) (hctr : AtTrip V t) (htab : HasTable V) (n : Fin 16) (r : Fin 256) :
    meeting (looked V) n r = entering (scores V t ht) (state V) n r := by
  have hctr' : AtTrip (after condOps V) t := (ctr_cond V).trans hctr
  have htab' : HasTable (after while0Ops0 (after condOps V)) := fun r j => by
    rw [after_of_writes_sub while0Ops0 _ while0Ops0_writes (by decide +kernel),
      after_of_writes_sub condOps _ condOps_writes (by decide +kernel)]
    exact htab r j
  have hstate : state (after while0Ops0 (after condOps V)) = state V := by
    unfold state
    rw [after_of_writes_sub while0Ops0 _ while0Ops0_writes (by decide +kernel),
      after_of_writes_sub condOps _ condOps_writes (by decide +kernel)]
  have hscores : scores (after condOps V) t ht = scores V t ht := by
    unfold scores
    rw [after_of_writes_sub condOps _ condOps_writes (by decide +kernel)]
  have h6 : looked V (Proc.devRef .tc main_while0b_v6) = after while0Ops0 (after condOps V) (Proc.devRef .tc main_while0b_v6) := by
    unfold looked
    rw [after_of_writes_sub while0Ops0_1 _ while0Ops0_1_writes (by decide +kernel)]
  funext j
  unfold meeting met entering
  rw [h6, read_scores _ ht hctr', hscores]
  unfold looked
  rw [read_sources _ htab', hstate]

/-- The new forward scores when the body's first five stretches have run. -/
theorem new_state {t : ℕ} (ht : t < 1024) (hctr : AtTrip V t) (htab : HasTable V)
    (hlt : ∀ n r j, entering (scores V t ht) (state V) n r j < ⊤) (n : Fin 16) (r : Fin 256) :
    after while0Ops0_4 (after while0Ops0_3 (after while0Ops0_2 (looked V))) (Proc.devRef .tc main_while0b_v20) (ix2 n r) =
      next (scores V t ht) (state V) n r := by
  rw [new_state_at, meeting_looked V ht hctr htab]
  exact shifted_guarded (hlt n r) _

/-- A trip's new forward scores, where no number that meets is `+∞`: one step of the recurrence on the carried ones. -/
theorem trip_state {t : ℕ} (ht : t < 1024) (hctr : AtTrip V t) (htab : HasTable V)
    (hlt : ∀ n r j, entering (scores V t ht) (state V) n r j < ⊤) :
    state (trip V) = next (scores V t ht) (state V) := by
  funext n r
  rw [← new_state V ht hctr htab hlt n r]
  unfold state trip
  simp only [afterL_cons, afterL_nil]
  rw [carry_state, after_of_writes_sub while0Ops0_5 _ while0Ops0_5_writes (by decide +kernel)]
  rfl

/-- The collected array after a trip: row `t` is the new forward scores, every other row is kept. -/
theorem trip_rows {t : ℕ} (ht : t < 1024) (hctr : AtTrip V t) (htab : HasTable V)
    (hlt : ∀ n r j, entering (scores V t ht) (state V) n r j < ⊤) (i : Fin 1024) (n : Fin 16) (r : Fin 256) :
    trip V (Proc.devRef .tc main_v3_4) (ix3 i n r) =
      if i.val = t then next (scores V t ht) (state V) n r else V (Proc.devRef .tc main_v3_4) (ix3 i n r) := by
  have hctr' : AtTrip (after while0Ops0_4 (after while0Ops0_3 (after while0Ops0_2 (looked V)))) t := by
    unfold AtTrip looked
    rw [ctr_while0Ops0_4, ctr_while0Ops0_3, ctr_while0Ops0_2, ctr_while0Ops0_1, ctr_while0Ops0, ctr_cond]
    exact hctr
  unfold trip
  simp only [afterL_cons, afterL_nil]
  rw [carry_rows]
  refine (write_row _ ht hctr' i n r).trans ?_
  rw [new_state V ht hctr htab hlt n r]
  unfold looked
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

end Cert.Crf.Reference

end
-- ==== Proof.ReferenceValue.lean ====
/-
  The reference's result: by induction on the trips its loop carries the recurrence's forward scores, and the array it
  returns is `forward` of its argument.
-/
module

public import proofs.«01_k».proof.Proof.ReferenceStep

@[expose] public section

set_option maxRecDepth 16384

noncomputable section

namespace Cert.Crf.Reference

open Idealize.ShloMosaic Idealize.ShloMosaic.TcCoe Idealize.SL.Sem
open Idealize.ShloMosaic.StableHlo
open Cert.ReferenceIdeal Cert.ReferenceIdeal.Gen Cert.ReferenceIdeal.Value

/-! ## Before and after the loop -/

section Ends

variable (V : Valuation τ sig (Elt Ideal))

/-- The operations before the loop lay the argument out by time, batch entry, state and transition. -/
theorem entry_scores (t : ℕ) (ht : t < 1024) :
    scores (after hostOps0 V) t ht = scoresAt (V (Proc.devRef .tc main_arg0)) t := by
  funext n r j
  unfold scores scoresAt
  rw [dif_pos ht]
  after_reads_at
  rfl

/-- They write the table of source states. -/
theorem entry_table : HasTable (after hostOps0 V) := by
  intro r j
  rw [← lit0_at r j]
  after_reads_simp
  rfl

/-- They start the forward scores at zero. -/
theorem entry_state : state (after hostOps0 V) = fun _ _ => 0 := by
  funext n r
  unfold state
  after_reads_at
  show broadcastInDim S16x256 ![] bcast_S_S16x256 (constant (F := Ideal) S_ .f32 0#32) (ix2 n r) = (0 : EReal)
  pointwise

/-- The first row of the result is zero. -/
theorem entry_zero (n : Fin 16) (r : Fin 256) : after hostOps0 V (Proc.devRef .tc main_v1) (ix2 n r) = (0 : EReal) := by
  after_reads_at

/-- They leave the argument. -/
theorem entry_arg : after hostOps0 V (Proc.devRef .tc main_arg0) = V (Proc.devRef .tc main_arg0) :=
  after_of_writes_sub hostOps0 _ hostOps0_writes (by decide +kernel)

/-- The operations after the loop put the first row before the collected rows. -/
theorem exit_at (k : Fin 1025) (n : Fin 16) (r : Fin 256) :
    after hostOps0_1 V (Proc.devRef .tc main_v5) (ix3 k n r) =
      if h : k.val < 1 then V (Proc.devRef .tc main_v1) (ix2 n r)
      else V (Proc.devRef .tc main_v3_4) (ix3 (⟨k.val - 1, by have := k.isLt; omega⟩ : Fin 1024) n r) := by
  after_reads_at

/-- They leave the argument. -/
theorem exit_arg : after hostOps0_1 V (Proc.devRef .tc main_arg0) = V (Proc.devRef .tc main_arg0) := by
  after_reads_simp

/-- The loop's last test writes none of the buffers that the operations after the loop read. -/
theorem test_kept {b : DevRef τ sig} (hb : b = Proc.devRef .tc main_arg0 ∨ b = Proc.devRef .tc main_v1 ∨
    b = Proc.devRef .tc main_v3_4) : after condOps V b = V b := by
  rcases hb with rfl | rfl | rfl <;> exact after_of_writes_sub condOps _ condOps_writes (by decide +kernel)

end Ends

/-! ## The trips -/

variable (m : (ℓ : Loc nD τ sig) → Buf (Elt Ideal) ℓ) (c : Dev nD)

/-- What the loop leaves alone: the argument, the zero row, the laid out scores and the table. -/
structure Kept (V : Valuation τ sig (Elt Ideal)) (a : Vec Ideal ⟨3, ![1024, 16, 1280]⟩ .f32) : Prop where
  arg : V (Proc.devRef .tc main_arg0) = a
  zero : ∀ n r, V (Proc.devRef .tc main_v1) (ix2 n r) = (0 : EReal)
  scores : ∀ t ht, scores V t ht = scoresAt a t
  table : HasTable V

/-- A trip leaves them alone. -/
theorem Kept.next {V : Valuation τ sig (Elt Ideal)} {a : Vec Ideal ⟨3, ![1024, 16, 1280]⟩ .f32} (h : Kept V a) :
    Kept (trip V) a where
  arg := (trip_kept V (.inl rfl)).trans h.arg
  zero n r := by rw [trip_kept V (.inr (.inl rfl))]; exact h.zero n r
  scores t ht := by
    rw [← h.scores t ht]
    unfold Reference.scores
    rw [trip_kept V (.inr (.inr (.inl rfl)))]
  table r j := by rw [trip_kept V (.inr (.inr (.inr rfl)))]; exact h.table r j

/-- They hold at the loop's entry. -/
theorem Kept.entry : Kept (entryContents preI m c) (m ((c : Thread nD τ).loc main_arg0)) := by
  have e : entryContents preI m c = after hostOps0 (launchContents m c) := rfl
  rw [e]
  exact ⟨entry_arg _, entry_zero _, entry_scores _, entry_table _⟩

/-- They hold at every trip. -/
theorem kept (k : ℕ) : Kept (atK m k c) (m ((c : Thread nD τ).loc main_arg0)) := by
  induction k with
  | zero => exact Kept.entry m c
  | succ k ih => exact Kept.next ih

/-- At trip `k ≤ 1024` the carried forward scores are the recurrence's after `k` steps, and the rows collected so far
    are those after each step. -/
theorem carried (hv : Bounded (m ((c : Thread nD τ).loc main_arg0))) : ∀ k, k ≤ 1024 →
    state (atK m k c) = alpha (scoresAt (m ((c : Thread nD τ).loc main_arg0))) k ∧
    ∀ (i : Fin 1024), i.val < k → ∀ n r, atK m k c (Proc.devRef .tc main_v3_4) (ix3 i n r) =
      alpha (scoresAt (m ((c : Thread nD τ).loc main_arg0))) (i.val + 1) n r
  | 0, _ => ⟨entry_state _, fun i hi => absurd hi (Nat.not_lt_zero _)⟩
  | k + 1, hk => by
    obtain ⟨hs, hr⟩ := carried hv k (by omega)
    have h2 := (kept m c k).scores
    have h3 := (kept m c k).table
    have hk' : k < 1024 := hk
    have hctr : AtTrip (atK m k c) k := atK_ctr m c k
    have hlt : ∀ n r j, entering (scores (atK m k c) k hk') (state (atK m k c)) n r j < ⊤ := fun n r j => by
      rw [h2 k hk', hs]
      exact entering_lt_top (scoresAt_lt_top hv) k n r j
    refine ⟨(trip_state (atK m k c) hk' hctr h3 hlt).trans ?_, fun i hi n r => ?_⟩
    · rw [h2 k hk', hs]; rfl
    · refine (trip_rows (atK m k c) hk' hctr h3 hlt i n r).trans ?_
      by_cases he : i.val = k
      · rw [if_pos he, h2 k hk', hs, he]; rfl
      · rw [if_neg he]
        exact hr i (by omega) n r

/-- The argument at the end. -/
theorem final_arg : finalContents condOps preI bodyI postI 1024 m c (Proc.devRef .tc main_arg0) = m ((c : Thread nD τ).loc main_arg0) :=
  (exit_arg _).trans ((test_kept _ (.inl rfl)).trans (kept m c 1024).arg)

/-- THE REFERENCE'S RESULT: where no score is `+∞`, the forward scores of the argument. -/
theorem final_result (hv : Bounded (m ((c : Thread nD τ).loc main_arg0))) :
    finalContents condOps preI bodyI postI 1024 m c (Proc.devRef .tc main_v5) =
      forward (m ((c : Thread nD τ).loc main_arg0)) := by
  refine funext fun (i : S1025x16x256.Idx) => ?_
  obtain ⟨k, n, r, rfl⟩ : ∃ (k : Fin 1025) (n : Fin 16) (r : Fin 256), i = ix3 k n r := ⟨i 0, i 1, i 2, (ix3_eta i).symm⟩
  refine (exit_at (after condOps (atK m 1024 c)) k n r).trans ?_
  rw [test_kept _ (.inr (.inl rfl)), test_kept _ (.inr (.inr rfl))]
  show _ = alpha (scoresAt (m ((c : Thread nD τ).loc main_arg0))) k.val n r
  split
  · rename_i h
    rw [(kept m c 1024).zero n r, show k.val = 0 by omega]
    rfl
  · rename_i h
    rw [(carried m c hv 1024 le_rfl).2 ⟨k.val - 1, by have := k.isLt; omega⟩ (by show k.val - 1 < 1024; have := k.isLt; omega) n r]
    show alpha _ (k.val - 1 + 1) n r = _
    rw [Nat.sub_add_cancel (by omega)]

/-! ## The run -/

/-- The reference's run from any memory: it ends, with its argument unchanged and, where no score is `+∞`, the forward
    scores in its result. -/
theorem run (ρ : Dev nD → PrngReg) : θ_run (defs (F := Ideal)) (onTc (τ := τ) (main (F := Ideal))) ⟨m, fun _ => 0, ρ⟩
    (fun r => ∀ c : Dev nD,
      (Bounded (m ((c : Thread nD τ).loc main_arg0)) →
        r.2.mem ((c.tc : Thread nD τ).loc main_v5) = forward (m ((c : Thread nD τ).loc main_arg0)))
      ∧ r.2.mem ((c.tc : Thread nD τ).loc main_arg0) = m ((c.tc : Thread nD τ).loc main_arg0)) :=
  (θ_run _ _ _).mono (fun _ h c => ⟨fun hv => (h c main_v5 rfl).trans (final_result m c hv),
    (h c main_arg0 rfl).trans (final_arg m c)⟩) (run_fold m ρ)

/-- The reference's frame: it ends with its argument unchanged and every counter at zero (it has no semaphore). -/
theorem frame (ρ : Dev nD → PrngReg) : θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)) ∧ r.2.sem = fun _ => 0) :=
  (θ_run _ _ _).mono (fun r h => ⟨fun c => (h c).2, sem_eq_zero_of_no_sems (by decide) r.2⟩) (run m ρ)

end Cert.Crf.Reference

end
-- ==== Proof.lean ====
module

public import proofs.«01_k».proof.Defs
public import proofs.«01_k».proof.Proof.KernelValue
public import proofs.«01_k».proof.Proof.Precondition
public import proofs.«01_k».proof.Proof.ReferenceValue
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- Where no score is `+∞` the kernel and the reference end with the same array: the forward scores of the argument. -/
theorem algebraic [hPre : Cert.Pre_no_plus_inf.Facts] : Cert.algebraic_KernelIdeal_ReferenceIdeal_pre_no_plus_inf := by
  intro m ρ m' ρ' hpre hagree
  have hv : ∀ c : Dev Cert.KernelIdeal.nD,
      Cert.Crf.Bounded (m ((c.tc : Thread Cert.KernelIdeal.nD Cert.KernelIdeal.τ).loc Cert.KernelIdeal.main_arg0)) :=
    fun c => Cert.Crf.Precondition.bounded _ (hpre c)
  refine ⟨fun c => Cert.Crf.forward (m ((c.tc : Thread Cert.KernelIdeal.nD Cert.KernelIdeal.τ).loc Cert.KernelIdeal.main_arg0)), ?_, ?_⟩
  · exact (θ_run _ _ _).mono (fun _ h c => ⟨(h c).1.trans (Cert.Crf.Kernel.result_eq m c (hv c)), (h c).2⟩)
      (Cert.KernelIdeal.Value.run m ρ)
  · refine (θ_run _ _ _).mono (fun _ h c => ⟨?_, (h c).2⟩) (Cert.Crf.Reference.run m' ρ')
    have h1 := (h c).1
    rw [hagree c] at h1
    exact h1 (hv c)

theorem claim : Cert.Claim :=
  ⟨Cert.Kernel.Gen.facts, Cert.KernelIdeal.Gen.facts, Cert.ReferenceIdeal.Gen.facts, Cert.Crf.Precondition.facts,
    fun m ρ _ => Cert.Kernel.Gen.frame m ρ,
    fun m ρ _ => Cert.KernelIdeal.Gen.frame m ρ,
    fun m ρ _ => Cert.KernelIdeal.Gen.frame m ρ,
    fun m ρ _ => Cert.Crf.Reference.frame m ρ,
    fun m ρ _ => Cert.Crf.Reference.frame m ρ,
    trivial,
    algebraic (hPre := Cert.Crf.Precondition.facts)⟩

end Cert.Proof

end
